-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S_ : Shape := ⟨0, ![]⟩
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | _, _ => ⟨S2048x1024, .f32⟩

abbrev bufScoped : (cs : CoreSpace) → Fin (nBuf (.core cs)) → Bool
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v18 : BitVec 32 := Scalar.muli v8 c2048_i32
  let c0_i32_13 : BitVec 32 := 0#32
  ![v18.toNat, 0]
def k0_off2 (d0 : Dev nD) : Fin 2 → Nat :=
  let c0_i32_14 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v17 : BitVec 32 := Scalar.muli v9 c512_i32
  ![0, v17.toNat]
def k0_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32_10 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v21 : BitVec 32 := Scalar.muli v5 c2_i32_11
  let v22 : BitVec 32 := Scalar.addi v20 v21
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_12 : BitVec 32 := 1#32
  let v23 : BitVec 32 := Scalar.muli v9 c1_i32_12
  let v24 : BitVec 32 := Scalar.addi v22 v23
  v24.toNat
def k0_off3 (d0 : Dev nD) : Fin 2 → Nat :=
  let c0_i32_18 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_15 : BitVec 32 := 512#32
  let v27 : BitVec 32 := Scalar.muli v8 c512_i32_15
  ![0, v27.toNat]
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Pieces.lean ====
/-
# The pieces of the two arrays, and what the result holds

Eight devices, device `c` at mesh coordinates `(c / 4, c / 2 % 2, c % 2)`. The last coordinate, `z`, cuts the rows
of the global array: a device holds 2048 of its 4096 rows, all 1024 columns. The kernel exchanges this for the cut of
the columns: a device ends with all 4096 rows of its 512 columns. Two devices that differ in `z` alone are PARTNERS,
and each needs only what the two of them hold.

This module is the geometry alone: the partner, the four pieces the copies name, which pieces are disjoint, and the
function `result` that says what every element of a device's output is at the end.
-/
module

public import proofs.«01_k».proof.Proof.Gen.KernelIdeal
public import proofs.«01_k».proof.Proof.Gen.KernelIdeal.Launch
public import Idealize.ShloMosaic.Lib.Pipeline.ValueKit.Geometry
public import Idealize.ShloMosaic.Lib.Pipeline.Kit
public import Idealize.ShloMosaic.Lib.Tactic

@[expose] public section

noncomputable section

namespace Cert.Swap

open Cert.KernelIdeal Cert.KernelIdeal.Gen
open Idealize.ShloMosaic Idealize.ShloMosaic.TcCoe

variable {F : FTy → Type} [FloatOps F]

/-! ## Partners -/

/-- The device in `c`'s pair whose last mesh coordinate is `z % 2`. -/
def atZ (c : Dev nD) (z : ℕ) : Dev nD :=
  ⟨2 * (c.val / 2) + z % 2, by have : c.val < 8 := c.isLt; show _ < 8; omega⟩

/-- The partner of `c`: the same first two mesh coordinates, the other `z`. -/
def partner (c : Dev nD) : Dev nD := atZ c (c.val + 1)

/-- Its number. -/
theorem atZ_val (c : Dev nD) (z : ℕ) : (atZ c z).val = 2 * (c.val / 2) + z % 2 := rfl
/-- The partner's number. -/
theorem partner_val (c : Dev nD) : (partner c).val = 2 * (c.val / 2) + (c.val + 1) % 2 := rfl

/-- The partner's partner is the device itself. -/
theorem partner_partner (c : Dev nD) : partner (partner c) = c :=
  Fin.ext (by simp only [partner_val]; omega)

/-- The partner has the other `z`. -/
theorem partner_z (c : Dev nD) : (partner c).val % 2 = 1 - c.val % 2 := by rw [partner_val]; omega

/-- In its own pair, a device is the one at its own `z`; -/
theorem atZ_self (c : Dev nD) : atZ c (c.val % 2) = c := Fin.ext (by rw [atZ_val]; omega)

/-- and the partner is the one at the partner's `z`. -/
theorem atZ_partner (c : Dev nD) : atZ c ((partner c).val % 2) = partner c :=
  Fin.ext (by rw [atZ_val, partner_val]; omega)

/-- The exchange of partners, a permutation of the devices. -/
def swap : Dev nD ≃ Dev nD := ⟨partner, partner, partner_partner, partner_partner⟩

/-- The device the kernel signals is its partner, -/
theorem signalled_eq (c : Dev nD) : (⟨k0_dev1 c, k0_dev1_lt c⟩ : Dev nD) = partner c :=
  Fin.ext (by show k0_dev1 c = _; rw [k0_dev1_eq, partner_val]; have : c.val < 8 := c.isLt; omega)

/-- and so is the device it copies to. -/
theorem copied_eq (c : Dev nD) : (⟨k0_dev2 c, k0_dev2_lt c⟩ : Dev nD) = partner c :=
  Fin.ext (by show k0_dev2 c = _; rw [k0_dev2_eq, partner_val]; have : c.val < 8 := c.isLt; omega)

/-! ## The pieces -/

/-- The input, whole. -/
abbrev inM : Memref sig .tc .hbm S2048x1024 .f32 := Memref.whole main_arg0
/-- The output, whole. -/
abbrev outM : Memref sig .tc .hbm S4096x512 .f32 := Memref.whole main_v1

/-- The 512 columns of its input that device `c` sends: those its partner is to hold. -/
abbrev sent (c : Dev nD) : Memref sig .tc .hbm S2048x512 .f32 :=
  inM.slice (Rect.unit (s := S2048x1024) (k0_off2 c) S2048x512.size (k0_off2_inb c)) (fun _ => rfl)

/-- The 512 columns of its input that device `c` keeps. -/
abbrev kept (c : Dev nD) : Memref sig .tc .hbm S2048x512 .f32 :=
  inM.slice (Rect.unit (s := S2048x1024) (k0_off3 c) S2048x512.size (k0_off3_inb c)) (fun _ => rfl)

/-- The 2048 rows of an output that device `c` fills: the rows of the global array that `c` holds on entry. It fills
    them in its own output and, by the copy, in its partner's. -/
abbrev rows (c : Dev nD) : Memref sig .tc .hbm S2048x512 .f32 :=
  outM.slice (Rect.unit (s := S4096x512) (k0_off1 c) S2048x512.size (k0_off1_inb c)) (fun _ => rfl)

/-- An output element is in `c`'s rows exactly when its row number falls in the block of `c`'s `z`. -/
theorem mem_rows (c : Dev nD) (i : (rows c).view.ty.Idx) :
    i ∈ (rows c).view.set ↔ (i 0 : ℕ) / 2048 = c.val % 2 := by
  refine ValueKit.mem_set_slice_whole_iff main_v1 _ i (Rect.mem_set_unit.trans ?_)
  have h0 : (i 0 : ℕ) < 4096 := (i 0).isLt
  have h1 : (i 1 : ℕ) < 512 := (i 1).isLt
  rw [k0_off1_eq]
  refine (Fin.forall_fin_two (p := fun a : Fin 2 => ![2048 * (c.val % 2), 0] a ≤ (i a : ℕ)
    ∧ (i a : ℕ) < ![2048 * (c.val % 2), 0] a + S2048x512.size a)).trans ?_
  show (2048 * (c.val % 2) ≤ (i 0 : ℕ) ∧ (i 0 : ℕ) < 2048 * (c.val % 2) + 2048) ∧ (0 ≤ (i 1 : ℕ) ∧ (i 1 : ℕ) < 0 + 512) ↔ _
  omega

/-- An input element is among the 512 columns beginning at `k` exactly when its column number is. -/
theorem mem_columns {off : Fin 2 → ℕ} {k : ℕ} (hoff : off = ![0, k]) (inb : ∀ a, off a + S2048x512.size a ≤ S2048x1024.size a)
    (i : (main_arg0 : Ref sig .tc).ty.shape.Idx) :
    i ∈ (inM.slice (Rect.unit (s := S2048x1024) off S2048x512.size inb) (fun _ => rfl)).view.set ↔ k ≤ (i 1 : ℕ) ∧ (i 1 : ℕ) < k + 512 := by
  subst hoff
  refine ValueKit.mem_set_slice_whole_iff main_arg0 _ i (Rect.mem_set_unit.trans ?_)
  have h0 : (i 0 : ℕ) < 2048 := (i 0).isLt
  refine (Fin.forall_fin_two (p := fun a : Fin 2 => ![0, k] a ≤ (i a : ℕ) ∧ (i a : ℕ) < ![0, k] a + S2048x512.size a)).trans ?_
  show (0 ≤ (i 0 : ℕ) ∧ (i 0 : ℕ) < 0 + 2048) ∧ (k ≤ (i 1 : ℕ) ∧ (i 1 : ℕ) < k + 512) ↔ _
  omega

/-- The two partners' rows share no element, -/
theorem rows_apart (c : Dev nD) (i : (main_v1 : Ref sig .tc).ty.shape.Idx) :
    i ∈ (rows c).view.set → i ∉ (rows (partner c)).view.set := fun h h' => by
  have h := (mem_rows c i).mp h
  have h' := (mem_rows (partner c) i).mp h'
  rw [partner_z] at h'
  omega

/-- and together are the whole output. -/
theorem rows_cover (c : Dev nD) (i : (main_v1 : Ref sig .tc).ty.shape.Idx) :
    i ∈ (rows c).view.set ∨ i ∈ (rows (partner c)).view.set := by
  have h0 : (i 0 : ℕ) < 4096 := (i 0).isLt
  have hr := mem_rows c i
  have hp := mem_rows (partner c) i
  rw [partner_z] at hp
  rw [hr, hp]
  omega

/-- The columns sent and the columns kept are apart, -/
theorem columns_apart (c : Dev nD) (i : (main_arg0 : Ref sig .tc).ty.shape.Idx) :
    i ∈ (sent c).view.set → i ∉ (kept c).view.set := fun hs hk => by
  have hk := (mem_columns (k0_off3_eq c) (k0_off3_inb c) i).mp hk
  have hs := (mem_columns (k0_off2_eq c) (k0_off2_inb c) i).mp hs
  omega

/-- and together are the whole input. -/
theorem columns_cover (c : Dev nD) (i : (main_arg0 : Ref sig .tc).ty.shape.Idx) :
    i ∈ (sent c).view.set ∨ i ∈ (kept c).view.set := by
  have h1 : (i 1 : ℕ) < 1024 := (i 1).isLt
  have hk := mem_columns (k0_off3_eq c) (k0_off3_inb c) i
  have hs := mem_columns (k0_off2_eq c) (k0_off2_inb c) i
  rw [hk, hs]
  omega

/-! ## What the output holds at the end -/

variable (m : (ℓ : Loc nD τ sig) → Buf (Elt F) ℓ)

/-- The input of device `c`, as launched. -/
abbrev input (c : Dev nD) : Buf (Elt F) ((c : Thread nD τ).loc main_arg0) := m ((c : Thread nD τ).loc main_arg0)

/-- Where device `c`'s output element `i` comes from within the input that holds its row: the same row counted within
    its block of 2048, and the column counted from the first of `c`'s own 512. -/
def source (c : Dev nD) (i : S4096x512.Idx) : S2048x1024.Idx :=
  Shape.pair (d := ![2048, 1024]) ⟨(i 0 : ℕ) % 2048, Nat.mod_lt _ (by decide)⟩
    ⟨512 * (c.val % 2) + (i 1 : ℕ), by have : (i 1 : ℕ) < 512 := (i 1).isLt; show _ < 1024; omega⟩

/-- The output of device `c` at the end: element `i` is element `source c i` of the input of the device of `c`'s pair
    that holds row `i 0`. -/
def result (c : Dev nD) : Buf (Elt F) ((c : Thread nD τ).loc main_v1) :=
  fun i : S4096x512.Idx => input m (atZ c ((i 0 : ℕ) / 2048)) (source c i)

/-- Copying, out of the input of device `d` of `c`'s pair, 512 columns beginning at `c`'s first into `d`'s rows of `c`'s
    output leaves there what `result` says. Both copies are of this kind: `d = c` the one on the device, `d` the
    partner the one that arrives. -/
theorem copied_result (c d : Dev nD) (hd : atZ c (d.val % 2) = d) {off : Fin 2 → ℕ} (hoff : off = ![0, 512 * (c.val % 2)])
    (inb : ∀ a, off a + S2048x512.size a ≤ S2048x1024.size a) (f : Buf (Elt F) ((c : Thread nD τ).loc main_v1)) :
    ∀ i ∈ (rows d).view.set,
      (rows d).view.write (Elt F) f
        ((inM.slice (Rect.unit (s := S2048x1024) off S2048x512.size inb) (fun _ => rfl)).view.read (Elt F) (input m d)) Finset.univ i
        = result m c i := by
  subst hoff
  intro i hi
  obtain ⟨x, -, rfl⟩ := Finset.mem_map.mp hi
  refine (View.write_emb_of_mem (v := (rows d).view) f _ (Finset.mem_univ x)).trans ?_
  have e0 : ((rows d).view.emb x 0 : ℕ) = 2048 * (d.val % 2) + (x 0 : ℕ) :=
    (ValueKit.view_emb_slice_whole_unit_val main_v1 (k0_off1 d) S2048x512.size (k0_off1_inb d) x 0).trans
      (congrArg (· + (x 0 : ℕ)) (congrFun (k0_off1_eq d) 0))
  have e1 : ((rows d).view.emb x 1 : ℕ) = (x 1 : ℕ) :=
    (ValueKit.view_emb_slice_whole_unit_val main_v1 (k0_off1 d) S2048x512.size (k0_off1_inb d) x 1).trans
      ((congrArg (· + (x 1 : ℕ)) (congrFun (k0_off1_eq d) 1)).trans (Nat.zero_add _))
  have hx0 : (x 0 : ℕ) < 2048 := (x 0).isLt
  have hz : ((rows d).view.emb x 0 : ℕ) / 2048 = d.val % 2 := by rw [e0]; omega
  unfold result
  show input m d _ = input m (atZ c (((rows d).view.emb x 0 : ℕ) / 2048)) _
  rw [hz, hd]
  refine congrArg (input m d) (funext fun a => Fin.ext ?_)
  refine (ValueKit.view_emb_slice_whole_unit_val main_arg0 _ S2048x512.size inb x a).trans ?_
  match a with
  | ⟨0, _⟩ =>
    show 0 + (x 0 : ℕ) = ((rows d).view.emb x 0 : ℕ) % 2048
    rw [e0]; omega
  | ⟨1, _⟩ =>
    show 512 * (c.val % 2) + (x 1 : ℕ) = 512 * (c.val % 2) + ((rows d).view.emb x 1 : ℕ)
    rw [e1]

/-- The copy on the device: its kept columns into its own rows. -/
theorem kept_result (c : Dev nD) (f : Buf (Elt F) ((c : Thread nD τ).loc main_v1)) :
    ∀ i ∈ (rows c).view.set,
      (rows c).view.write (Elt F) f ((kept c).view.read (Elt F) (input m c)) Finset.univ i = result m c i :=
  copied_result m c c (atZ_self c) (k0_off3_eq c) _ f

/-- The copy to the partner: the columns `c` sends, in `c`'s rows of the partner's output. -/
theorem sent_result (c : Dev nD) (f : Buf (Elt F) ((partner c : Thread nD τ).loc main_v1)) :
    ∀ i ∈ (rows c).view.set,
      (rows c).view.write (Elt F) f ((sent c).view.read (Elt F) (input m c)) Finset.univ i = result m (partner c) i :=
  copied_result m (partner c) c (by have := atZ_partner (partner c); rwa [partner_partner] at this)
    ((k0_off2_eq c).trans (by rw [partner_z, Nat.mul_sub, Nat.mul_one])) _ f

end Cert.Swap

end
-- ==== Proof.Protocol.lean ====
/-
# The exchange: who pays each semaphore, how much, and what it hands over

Each device has four semaphores, used once:

| semaphore | paid by | units | handed to the device that waits |
|---|---|---|---|
| ready (the barrier semaphore) | the partner's signal | 1 | the rows of the PARTNER's output that the device fills, at any contents |
| out (the copy's sending side) | its own copy to the partner | `N` | the columns it sent, unchanged |
| back (the copy's receiving side) | the partner's copy | `N` | the partner's rows of its output, at `result` |
| here (the copy on the device) | its own copy | `N` | its own rows of its output, at `result`, and the columns it kept, unchanged |

In the order of the text: signal the partner's ready semaphore, wait on its own, start the copy to the partner, start
the copy on the device, wait on here, on out, on back. At the wait on ready a device still owes the partner's back
semaphore its `N` units, and nothing else is owed at any wait, so ready at level 1 below back at level 2 rules out a
circle of waits.

Indices: `0` ready, `1` out, `2` back, `3` here.
-/
module

public import proofs.«01_k».proof.Proof.Pieces
public import Idealize.ShloMosaic.Lib.Pipeline.Launch

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The logic's resources: the pipeline's copy of the rounds, and the exchange's own -/

/-- The ghost state of the exchange's rounds, -/
abbrev UX : Type := URounds (GSem nD τ sig) Unit
/-- beside that of the pipeline. -/
abbrev UU : Type := UR sig nD τ × UX

local notation "𝕄" => MT nD τ sig Unit (Elt F) ℕ UU ℕ

/-- The pipeline's half. -/
abbrev EP : Emb (UR sig nD τ) (MT nD τ sig Unit (Elt F) ℕ UU ℕ) := embL
/-- The exchange's half. -/
abbrev EX : Emb UX (MT nD τ sig Unit (Elt F) ℕ UU ℕ) := embR

variable (m : (ℓ : Loc nD τ sig) → Buf (Elt F) ℓ)

/-! ## The four semaphores -/

/-- The barrier semaphore, called ready here. -/
abbrev readyS : Sem sig := (SemArray.scalar (sig.barrier 0 rfl) : Sems sig S_).sem

/-- A device's four semaphores. -/
abbrev semOf : Fin 4 → SemLoc sig := fun
  | 0 => .reg readyS | 1 => .dma cc0_scratch0.sem | 2 => .dma cc0_scratch1.sem | 3 => .dma cc0_scratch2.sem

/-- The four are four. -/
theorem semOf_injective : Function.Injective semOf := by
  intro j k h
  fin_cases j <;> fin_cases k <;> first | rfl | exact absurd h (by decide)

/-- Semaphore `k` of device `c`. -/
abbrev cell (c : Dev nD) (k : Fin 4) : GSem nD τ sig := ((c : Thread nD τ), semOf k)

/-- Two semaphores are one only if device and index are. -/
theorem cell_eq_iff {c d : Dev nD} {j k : Fin 4} : cell c j = cell d k ↔ c = d ∧ j = k :=
  ⟨fun h => ⟨congrArg (fun g : GSem nD τ sig => g.1.1) h, semOf_injective (congrArg Prod.snd h)⟩, fun h => by rw [h.1, h.2]⟩

/-- Which of the four a semaphore is, if any. -/
def which (s : SemLoc sig) : Option (Fin 4) := (List.finRange 4).find? fun k => semOf k = s

/-- Semaphore `k` is found as `k`. -/
theorem which_semOf (k : Fin 4) : which (semOf k) = some k := by fin_cases k <;> decide

/-- The units a copy of 2048 by 512 elements pays. -/
abbrev N : ℕ := (rows (0 : Dev nD)).view.dmaCredit

/-- A copy pays something. -/
theorem N_pos : 0 < N := View.dmaCredit_pos _ (by decide)

/-- The units of semaphore `k`. -/
def units (k : Fin 4) : ℕ := if k = 0 then 1 else N

/-- Every semaphore gets something. -/
theorem units_pos (k : Fin 4) : 0 < units k := by
  unfold units; split
  · exact Nat.one_pos
  · exact N_pos

/-- The three that copies pay get a copy's units. -/
theorem units_copy {k : Fin 4} (hk : k ≠ 0) : units k = N := if_neg hk

/-! ## What is handed over -/

/-- The columns device `c` sends, as launched. -/
def sentPts (c : Dev nD) : sProp 𝕄 := (sent c).view.loc (c : Thread nD τ) ↦[(sent c).view.set]{fullShare} input m c
/-- The columns device `c` keeps, as launched. -/
def keptPts (c : Dev nD) : sProp 𝕄 := (kept c).view.loc (c : Thread nD τ) ↦[(kept c).view.set]{fullShare} input m c
/-- `d`'s rows of the output of device `c`, at contents `f`. -/
def rowsPts (c d : Dev nD) (f : Buf (Elt F) ((c : Thread nD τ).loc main_v1)) : sProp 𝕄 :=
  (rows d).view.loc (c : Thread nD τ) ↦[(rows d).view.set]{fullShare} f

/-- What device `c` gets from semaphore `k`. -/
def handed (c : Dev nD) : Fin 4 → sProp 𝕄
  | 0 => iprop(∃ f, rowsPts (partner c) c f)
  | 1 => sentPts m c
  | 2 => rowsPts c (partner c) (result m c)
  | 3 => iprop(rowsPts c c (result m c) ∗ keptPts m c)

omit [FloatOps F] in
/-- What is handed over may be kept in an invariant. -/
instance handed_storable (c : Dev nD) (k : Fin 4) : BI.Storable (upEmb : UEmb _ 𝕄) (handed (F := F) m c k) := by
  unfold handed rowsPts sentPts keptPts
  split <;> infer_instance

/-- The schedule: one duty on each of the four semaphores of every device, in round 0, and no more. -/
def plan : Rounds.Schedule (GSem nD τ sig) Unit 𝕄 where
  duties g r := if r = 0 ∧ g.1.2 = .tc ∧ (which g.2).isSome = true then {()} else ∅
  unitless _ := False
  amount g _ _ := (which g.2).elim 1 units
  payload g _ _ := (which g.2).elim iprop(emp) (handed m g.1.1)
  amount_pos g _ _ _ := by
    cases which g.2 with
    | none => exact Nat.one_pos
    | some k => exact units_pos k

/-- So may what the schedule hands over. -/
instance plan_storable (g : GSem nD τ sig) (r : ℕ) (d : Unit) : BI.Storable (upEmb : UEmb _ 𝕄) ((plan (F := F) m).payload g r d) := by
  show BI.Storable upEmb ((which g.2).elim iprop(emp) (handed m g.1.1))
  cases which g.2 with
  | none => show BI.Storable upEmb iprop(emp); infer_instance
  | some k => exact handed_storable m g.1.1 k

section Plan
variable (c : Dev nD) (k : Fin 4)

/-- Each of the four has its one duty in round 0, -/
theorem duties_cell : (plan (F := F) m).duties (cell c k) 0 = {()} := by
  dsimp only [plan]; exact if_pos ⟨rfl, rfl, by rw [which_semOf]; rfl⟩
/-- and none later. -/
theorem duties_later (g : GSem nD τ sig) : ∀ r, 1 ≤ r → (plan (F := F) m).duties g r = ∅ := fun r hr => by
  dsimp only [plan]; exact if_neg fun h => by omega
/-- So `()` is a duty of each in round 0. -/
theorem duty_mem : () ∈ (plan (F := F) m).duties (cell c k) 0 := by rw [duties_cell]; exact Finset.mem_singleton_self _
/-- The duty is of `units k`, -/
theorem amount_cell : (plan (F := F) m).amount (cell c k) 0 () = units k := by dsimp only [plan]; rw [which_semOf]; rfl
/-- `N` for a semaphore a copy pays, -/
theorem amount_copy {k : Fin 4} (hk : k ≠ 0) : (plan (F := F) m).amount (cell c k) 0 () = N := (amount_cell m c k).trans (units_copy hk)
/-- which is all its round expects, -/
theorem expect_cell : (plan (F := F) m).expect (cell c k) 0 = units k := by
  unfold Schedule.expect Schedule.amountOf; rw [duties_cell, Finset.sum_singleton, amount_cell]
/-- and hands over `handed c k`. -/
theorem payload_cell : (plan (F := F) m).payload (cell c k) 0 () = handed m c k := by dsimp only [plan]; rw [which_semOf]; rfl
/-- That is all its round hands over. -/
theorem rest_cell : bigSep ((plan (F := F) m).duties (cell c k) 0 \ ∅) (fun d => (plan (F := F) m).payload (cell c k) 0 d) = handed m c k := by
  rw [Finset.sdiff_empty, duties_cell, bigSep_singleton]; exact payload_cell m c k
end Plan

/-! ## What is owed, and the levels -/

/-- What device `c` owes once it has signalled: its copy to the partner. -/
def oweCopy (c : Dev nD) : CellTallies nD τ sig Unit := tallyAt (cell (partner c) 2) () N
/-- What device `c` owes at launch: that, and the signal. -/
def oweAll (c : Dev nD) : CellTallies nD τ sig Unit := oweCopy c + tallyAt (cell (partner c) 0) () 1

/-- The semaphores of the main threads have levels. -/
def levelled (g : GSem nD τ sig) : Finset Unit := if g.1.2 = .tc then {()} else ∅
/-- Ready at level 1, back at level 2, the rest at 0. -/
def level (g : GSem nD τ sig) (_ : Unit) : ℕ := if g.2 = semOf 0 then 1 else if g.2 = semOf 2 then 2 else 0

/-- Another thread's have none. -/
theorem levelled_of_ne (g : GSem nD τ sig) (h : g.1.2 ≠ .tc) : levelled g = ∅ := if_neg h
/-- A main thread's have one each. -/
theorem levelled_tc (c : Dev nD) (s : SemLoc sig) : levelled ((c : Thread nD τ), s) = {()} := if_pos rfl

/-- At its wait on ready a device owes only its partner's back semaphore, which is at a higher level. -/
theorem mayWait_ready (c : Dev nD) :
    (levAts levelled level : sProp 𝕄) ⊢ MayWait (c : Thread nD τ) (.reg readyS) () (oweCopy c) := by
  have at_copy {g : GSem nD τ sig} {u : Unit} (h : 0 < oweCopy c g u) : g = cell (partner c) 2 := by
    unfold oweCopy at h
    rw [tallyAt_apply] at h
    by_contra hn
    rw [if_neg fun h' => hn h'.1] at h
    exact Nat.lt_irrefl 0 h
  refine MayOwe.of_cut (L := levelled) (lev := level) 1 (fun p hp => ?_) (fun g u h => ?_) (fun p hp => ?_) (fun g u h => ?_)
  · rw [Finset.mem_singleton.mp hp, levelled_tc]; exact Finset.mem_singleton_self _
  · rw [at_copy h, levelled_tc]; exact Finset.mem_singleton_self _
  · rw [Finset.mem_singleton.mp hp]; exact le_of_eq (if_pos rfl)
  · rw [at_copy h]
    unfold level
    rw [if_neg (show ¬semOf 2 = semOf 0 from fun h' => absurd (semOf_injective h') (by decide)), if_pos rfl]
    decide

end Cert.Swap

end
-- ==== Proof.Body.lean ====
/-
# The kernel body, run once at a device `c`

From the start (`start`: the exchange's records, `c`'s positions and tokens, its two launch credits, and its two arrays)
the body ends with the input unchanged, the output at `result`, and the four semaphores at zero.
-/
module

public import proofs.«01_k».proof.Proof.Protocol
public import proofs.«01_k».proof.Proof.Gen.KernelIdeal.Skeleton
public import proofs.«01_k».proof.Proof.Gen.KernelIdeal.Points

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- No loop, so no variant. -/
abbrev 𝒱₀ : Variants := Variants.none

variable (m : (ℓ : Loc nD τ sig) → Buf (Elt F) ℓ)

/-! ## The two arrays, whole and in pieces -/

/-- Device `c`'s input, whole and as launched. -/
def inPts (c : Dev nD) : sProp 𝕄 := ((c : Thread nD τ).loc main_arg0) ↦{fullShare} input m c
/-- Device `c`'s output, whole, at contents `f`. -/
def outPts (c : Dev nD) (f : Buf (Elt F) ((c : Thread nD τ).loc main_v1)) : sProp 𝕄 :=
  ((c : Thread nD τ).loc main_v1) ↦{fullShare} f

/-- A buffer held whole is held as two pieces that are apart and cover it. -/
theorem two_pieces {ℓ : Loc nD τ sig} {I J : Finset (Idx ℓ)} (f : Buf (Elt F) ℓ) (apart : ∀ i, i ∈ I → i ∉ J)
    (cover : ∀ i, i ∈ I ∨ i ∈ J) :
    (ℓ ↦{fullShare} f : sProp 𝕄) = iprop((ℓ ↦[I]{fullShare} f) ∗ (ℓ ↦[J]{fullShare} f)) := by
  have hu : (Finset.univ : Finset (Idx ℓ)) = I ∪ J :=
    (Finset.eq_univ_iff_forall.mpr fun i => Finset.mem_union.mpr (cover i)).symm
  rw [hu]
  have h : (ℓ ↦[I ∪ J]{fullShare} f : sProp 𝕄) ⊣⊢ iprop((ℓ ↦[I]{fullShare} f) ∗ (ℓ ↦[J]{fullShare} f)) :=
    pointsTo_union (Finset.disjoint_left.mpr fun i => apart i)
  exact BI.equiv_iff.mp ⟨h.1, h.2⟩

/-- The input is the columns sent and the columns kept. -/
theorem in_pieces (c : Dev nD) : inPts m c = iprop(sentPts m c ∗ keptPts m c) :=
  two_pieces (input m c) (columns_apart c) (columns_cover c)

/-- The output is the rows the device fills and the rows its partner fills. -/
theorem out_pieces (c : Dev nD) (f : Buf (Elt F) ((c : Thread nD τ).loc main_v1)) :
    outPts c f = iprop(rowsPts c c f ∗ rowsPts c (partner c) f) :=
  two_pieces f (rows_apart c) (rows_cover c)

/-! ## What a device starts from and ends with -/

/-- The invariant of every one of the exchange's semaphores, under the name `K` gives it, and that round 0 is reached. -/
def records (K : Dev nD × Fin 4 → ℕ) : sProp 𝕄 :=
  bigSep Finset.univ fun ck : Dev nD × Fin 4 =>
    iprop(cellInv EX (plan m) (K ck) (cell ck.1 ck.2) ∗ reached EX (cell ck.1 ck.2) 0)

/-- The records may be used again and again. -/
instance records_persistent (K : Dev nD × Fin 4 → ℕ) : BI.Persistent (records m K) := by unfold records; infer_instance

/-- The record of one semaphore. -/
theorem record_at (K : Dev nD × Fin 4 → ℕ) (c : Dev nD) (k : Fin 4) :
    records m K ⊢ iprop(cellInv EX (plan m) (K (c, k)) (cell c k) ∗ reached EX (cell c k) 0) :=
  bigSep_elim (Φ := fun ck : Dev nD × Fin 4 =>
    iprop(cellInv EX (plan m) (K ck) (cell ck.1 ck.2) ∗ reached EX (cell ck.1 ck.2) 0)) (Finset.mem_univ (c, k))

/-- Device `c`'s positions at its four semaphores. -/
def positions (c : Dev nD) : sProp 𝕄 :=
  iprop(atPos EX (cell c 0) 0 ∅ 0 ∗ atPos EX (cell c 1) 0 ∅ 0 ∗ atPos EX (cell c 2) 0 ∅ 0 ∗ atPos EX (cell c 3) 0 ∅ 0)

/-- The tokens of the four duties device `c` pays. -/
def payToks (c : Dev nD) : sProp 𝕄 :=
  iprop(dutyTok EX (cell (partner c) 0) 0 () ∗ dutyTok EX (cell c 1) 0 () ∗ dutyTok EX (cell (partner c) 2) 0 () ∗ dutyTok EX (cell c 3) 0 ())

/-- What the body starts from, but for the records. -/
def mine (c : Dev nD) : sProp 𝕄 :=
  iprop(cred (tallyAt (cell c 0) () 1) ∗ cred (tallyAt (cell c 2) () N) ∗ levAts levelled level
    ∗ inPts m c ∗ outPts c (m ((c : Thread nD τ).loc main_v1)))

/-- The exchange's share of the start. -/
def ghost (c : Dev nD) : sProp 𝕄 := iprop(∃ K, records m K ∗ positions c ∗ payToks c)

/-- What device `c` starts from. -/
def start (c : Dev nD) : sProp 𝕄 := iprop(ghost m c ∗ mine m c)

/-- What device `c` ends with. -/
def finish (c : Dev nD) : sProp 𝕄 :=
  iprop(inPts m c ∗ outPts c (result m c)
    ∗ semVal (cell c 0) 0 ∗ semVal (cell c 1) 0 ∗ semVal (cell c 2) 0 ∗ semVal (cell c 3) 0)

/-! ## The two copies and the waits -/

section Steps
variable (K : Dev nD × Fin 4 → ℕ) (c : Dev nD)

/-- What arrives at the partner is what its back semaphore is to hand over. -/
theorem arrives (f : Buf (Elt F) ((partner c : Thread nD τ).loc main_v1)) :
    (((rows c).view.loc (partner c : Thread nD τ) ↦[(rows c).view.set]{fullShare}
        (rows c).view.write (Elt F) f ((sent c).view.read (Elt F) (input m c)) Finset.univ : sProp 𝕄))
      ⊢ (plan m).payload (cell (partner c) 2) 0 () := by
  rw [payload_cell]
  show _ ⊢ rowsPts (partner c) (partner (partner c)) (result m (partner c))
  rw [partner_partner]
  unfold rowsPts
  exact Entails.of_eq (pointsTo_congr (sent_result m c f))

/-- The columns that were sent are what semaphore out hands back. -/
theorem returns : sentPts m c ⊢ (plan m).payload (cell c 1) 0 () := Entails.of_eq (payload_cell m c 1).symm

/-- The copy to the partner: it takes the columns to send, the partner's rows, and the two duties' tokens; it leaves the
    credit of its sending side, and nothing owed. -/
theorem wp_copy_over (n : Dev nD) (hn : n = partner c) {hsc : (rows c : Memref sig (Dev.tc n : Thread nD τ).2.kind .hbm S2048x512 .f32).view.ref.isScScratch = false}
    {hsrc : (sent c).view.WordExact} {hdst : (rows c).view.WordExact}
    {hsem : DmaTarget.Typed .hbm (.dma cc0_scratch1.sem) (.remote (Dev.tc n : Thread nD τ) (rows c) (.dma cc0_scratch0.sem) hsc)}
    {α : Type} {Q : α → sProp 𝕄} {k : PUnit → Prog (TpuEff nD τ sig (Elt F) Λ₀ .tc) α}
    (f : Buf (Elt F) ((partner c : Thread nD τ).loc main_v1)) (W : Waits sig Unit) :
    iprop(cellInv EX (plan m) (K (c, 1)) (cell c 1) ∗ cellInv EX (plan m) (K (partner c, 2)) (cell (partner c) 2)
        ∗ sentPts m c ∗ rowsPts (partner c) c f ∗ owes (c : Thread nD τ) (oweCopy c) W
        ∗ dutyTok EX (cell c 1) 0 () ∗ reached EX (cell c 1) 0
        ∗ dutyTok EX (cell (partner c) 2) 0 () ∗ reached EX (cell (partner c) 2) 0)
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sent c) (.remote (Dev.tc n : Thread nD τ) (rows c) (.dma cc0_scratch0.sem) hsc) (.dma cc0_scratch1.sem) hsrc hdst hsem) k) Q) := by
  subst hn
  unfold sentPts rowsPts oweCopy
  exact (Rounds.wp_send_pointsTo (defs := defs₀ (F := F)) (Γ := []) (Es := Set.univ) 𝒱₀ EX (plan m) (c : Thread nD τ) none (κ₁ := K (c, 1)) (κ₂ := K (partner c, 2))
    (c' := (partner c : Thread nD τ)) (src := sent c) (dst := rows c) (sS := .dma cc0_scratch0.sem) (sem := .dma cc0_scratch1.sem) (hsc := hsc)
    (hsrc := hsrc) (hdst := hdst) (hsem := hsem) (k := k) (Q := Q) (fs := input m c)
    (r₁ := 0) (r₂ := 0) (d₁ := ()) (d₂ := ()) (fd := f) (q := fullShare)
    (duty_mem m c 1) (duty_mem m (partner c) 2) () () N rfl (amount_copy m c (k := 1) (by decide)) (amount_copy m (partner c) (k := 2) (by decide))
    0 (zero_add _).symm (W := W) (returns m c) (arrives m c f))

/-- What the copy on the device leaves is what the here semaphore is to hand over. -/
theorem placed (f : Buf (Elt F) ((c : Thread nD τ).loc main_v1)) :
    iprop(((rows c).view.loc (c : Thread nD τ) ↦[(rows c).view.set]{fullShare}
        (rows c).view.write (Elt F) f ((kept c).view.read (Elt F) (input m c)) Finset.univ) ∗ keptPts m c)
      ⊢ (plan m).payload (cell c 3) 0 () := by
  rw [payload_cell]
  show _ ⊢ iprop(rowsPts c c (result m c) ∗ keptPts m c)
  unfold rowsPts
  exact sep_mono_left (Entails.of_eq (pointsTo_congr (kept_result m c f)))

/-- The copy on the device: it takes the columns to keep, the device's rows and the duty's token, and leaves its credit. -/
theorem wp_copy_here {hsrc : (kept c).view.WordExact} {hdst : (rows c).view.WordExact}
    {hsem : DmaTarget.Typed (nD := nD) .hbm (.dma cc0_scratch2.sem) (DmaTarget.here (p := (c : Thread nD τ).2) (rows c))}
    {α : Type} {Q : α → sProp 𝕄} {k : PUnit → Prog (TpuEff nD τ sig (Elt F) Λ₀ .tc) α}
    (f : Buf (Elt F) ((c : Thread nD τ).loc main_v1)) :
    iprop(cellInv EX (plan m) (K (c, 3)) (cell c 3) ∗ keptPts m c ∗ rowsPts c c f ∗ dutyTok EX (cell c 3) 0 () ∗ reached EX (cell c 3) 0)
      ⊢ iprop((cred (tallyAt (cell c 3) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kept c) (.here (rows c)) (.dma cc0_scratch2.sem) hsrc hdst hsem) k) Q) :=
  Rounds.wp_copy_pointsTo (defs := defs₀ (F := F)) (Γ := []) (Es := Set.univ) 𝒱₀ EX (plan m) (c : Thread nD τ) none (κ := K (c, 3))
    (src := kept c) (dst := rows c) (sem := .dma cc0_scratch2.sem) (hsrc := hsrc) (hdst := hdst) (hsem := hsem) (k := k) (Q := Q)
    (fs := input m c) (fd := f) (q := fullShare) (r := 0) (d := ())
    (duty_mem m c 3) () N rfl (amount_copy m c (k := 3) (by decide)) (placed m c f)

/-- A wait for a copy, nothing owed: it takes the credit and the position, and gets what the semaphore hands over. -/
theorem wp_wait_copy (k : Fin 4) (hk : k ≠ 0) {q : DmaSem sig} (hq : semOf k = .dma q) {s s' : Shape}
    {src : Memref sig .tc .hbm s .f32} {dst : Memref sig .tc .hbm s' .f32} {hsrc : src.view.WordExact} {hdst : dst.view.WordExact}
    (hN : dst.view.dmaCredit = N)
    {α : Type} {Q : α → sProp 𝕄} {kont : PUnit → Prog (TpuEff nD τ sig (Elt F) Λ₀ .tc) α} (W : Waits sig Unit) :
    iprop(cellInv EX (plan m) (K (c, k)) (cell c k) ∗ cred (tallyAt (cell c k) () N) ∗ owes (c : Thread nD τ) 0 W ∗ atPos EX (cell c k) 0 ∅ 0)
      ⊢ iprop(((owes (c : Thread nD τ) 0 (insert (semOf k, ()) W) ∗ atPos EX (cell c k) 1 ∅ 0 ∗ handed m c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hsrc hdst) kont) Q) := by
  have step := Rounds.wp_wait_rest_token (defs := defs₀ (F := F)) (Γ := []) (Es := Set.univ) 𝒱₀ EX (plan m) (c : Thread nD τ) none
    (w := .waitDma2 q src dst hsrc hdst) (sm := semOf k) (k' := N) (κ := K (c, k)) (k := kont) (Q := Q)
    (fun Q' => by rw [hq, ← hN]; exact wpE_waitDma2_eq 𝒱₀ (c : Thread nD τ) none Set.univ Q')
    (Set.mem_univ _) () (O := 0) (W := W) (R := 0) (m := 0) (T := ∅)
    ((Nat.zero_add _).trans ((expect_cell m c k).trans (units_copy hk)).symm)
  rw [show ((c : Thread nD τ), semOf k) = cell c k from rfl, rest_cell, MayWait_zero] at step
  iintro ⟨#HI, Hc, HO, Hat⟩ Hk
  iapply step $$ [Hc HO Hat]
  · isplitr; · iexact HI
    isplitl [Hc]; · iexact Hc
    isplitl [HO]; · iexact HO
    isplitr; · iempintro
    iexact Hat
  iintro ⟨HO, Hat, -, Hp⟩
  iapply Hk
  isplitl [HO]; · iexact HO
  isplitl [Hat]; · iexact Hat
  iexact Hp

/-- The signal to the partner: it hands over the rows of this device's output that the partner is to fill. -/
theorem wp_signal_ready (n : Dev nD) (hn : n = partner c) (v : ℕ) (hv : v = 1)
    {α : Type} {Q : α → sProp 𝕄} {kont : PUnit → Prog (TpuEff nD τ sig (Elt F) Λ₀ .tc) α} (W : Waits sig Unit)
    (f : Buf (Elt F) ((c : Thread nD τ).loc main_v1)) :
    iprop(cellInv EX (plan m) (K (partner c, 0)) (cell (partner c) 0) ∗ owes (c : Thread nD τ) (oweAll c) W
        ∗ dutyTok EX (cell (partner c) 0) 0 () ∗ rowsPts c (partner c) f ∗ reached EX (cell (partner c) 0) 0)
      ⊢ iprop((owes (c : Thread nD τ) (oweCopy c) W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc n : Thread nD τ) readyS v) kont) Q) := by
  subst hn hv
  have step := Rounds.wp_signal (defs := defs₀ (F := F)) (Γ := []) (Es := Set.univ) 𝒱₀ EX (plan m) (c : Thread nD τ) none
    (dst := (partner c : Thread nD τ)) (sem := readyS) (κ := K (partner c, 0)) (k := kont) (Q := Q) (r := 0) (d := ())
    (duty_mem m (partner c) 0) (amount_cell m (partner c) 0) () (O₀ := oweAll c) (oweCopy c) rfl (W := W)
  rw [show ((partner c : Thread nD τ), SemLoc.reg readyS) = cell (partner c) 0 from rfl, payload_cell] at step
  iintro ⟨#HI, HO, Ht, Hy, #Hr⟩
  iapply step
  isplitr; · iexact HI
  isplitl [HO]; · iexact HO
  isplitl [Ht]; · iexact Ht
  isplitl [Hy]
  · unfold handed
    iexists f
    rw [partner_partner]
    iexact Hy
  iexact Hr

/-- The wait for the partner's signal, the copy to the partner owed: it gets the rows of the partner's output that this
    device is to fill. -/
theorem wp_wait_ready (v : ℕ) (hv : v = 1)
    {α : Type} {Q : α → sProp 𝕄} {kont : PUnit → Prog (TpuEff nD τ sig (Elt F) Λ₀ .tc) α} (W : Waits sig Unit) :
    iprop(cellInv EX (plan m) (K (c, 0)) (cell c 0) ∗ cred (tallyAt (cell c 0) () 1) ∗ owes (c : Thread nD τ) (oweCopy c) W
        ∗ levAts levelled level ∗ atPos EX (cell c 0) 0 ∅ 0)
      ⊢ iprop(((owes (c : Thread nD τ) (oweCopy c) (insert (semOf 0, ()) W) ∗ atPos EX (cell c 0) 1 ∅ 0 ∗ ∃ f, rowsPts (partner c) c f)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait readyS v) kont) Q) := by
  subst hv
  have step := Rounds.wp_wait_rest_token (defs := defs₀ (F := F)) (Γ := []) (Es := Set.univ) 𝒱₀ EX (plan m) (c : Thread nD τ) none
    (w := .semWait readyS 1) (sm := semOf 0) (k' := 1) (κ := K (c, 0)) (k := kont) (Q := Q)
    (fun Q' => wpE_semWait_eq 𝒱₀ (c : Thread nD τ) none Set.univ Q')
    (Set.mem_univ _) () (O := oweCopy c) (W := W) (R := 0) (m := 0) (T := ∅)
    ((Nat.zero_add _).trans (expect_cell m c 0).symm)
  rw [show ((c : Thread nD τ), semOf 0) = cell c 0 from rfl, rest_cell] at step
  iintro ⟨#HI, Hc, HO, #Hlev, Hat⟩ Hk
  iapply step $$ [Hc HO Hat]
  · isplitr; · iexact HI
    isplitl [Hc]; · iexact Hc
    isplitl [HO]; · iexact HO
    isplitr; · iapply (mayWait_ready c); iexact Hlev
    iexact Hat
  iintro ⟨HO, Hat, -, Hp⟩
  iapply Hk
  isplitl [HO]; · iexact HO
  isplitl [Hat]; · iexact Hat
  unfold handed
  iexact Hp

/-- A semaphore waited on for the last time closes: its counter, at zero, is the device's again. -/
theorem close (k : Fin 4) :
    iprop(cellInv EX (plan m) (K (c, k)) (cell c k) ∗ atPos EX (cell c k) 1 ∅ 0) ⊢ (|={Set.univ}=> semVal (cell c k) 0 : sProp 𝕄) :=
  Rounds.cell_close EX (plan m) (Set.mem_univ (K (c, k))) (fun h => h) (R := 0 + 1) (duties_later m (cell c k))

set_option maxHeartbeats 800000 in
/-- The body, one rule per operation in program order. -/
theorem sound_body (Kt : PUnit → sProp 𝕄) (W : Waits sig Unit) :
    iprop((records m K ∗ positions c ∗ payToks c ∗ mine m c ∗ owes (c : Thread nD τ) (oweAll c) W)
        ∗ ((finish m c ∗ ∃ W, owes (c : Thread nD τ) 0 W) -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold positions payToks mine
  iintro ⟨⟨#HR, ⟨Ha0, Ha1, Ha2, Ha3⟩, ⟨Ht0, Ht1, Ht2, Ht3⟩, ⟨Hc0, Hc2, #Hlev, Hin, Hout⟩, HO⟩, Hk⟩
  ihave R0 := (record_at m K c 0) $$ HR
  icases R0 with ⟨#Hi0, #Hr0⟩
  ihave R1 := (record_at m K c 1) $$ HR
  icases R1 with ⟨#Hi1, #Hr1⟩
  ihave R2 := (record_at m K c 2) $$ HR
  icases R2 with ⟨#Hi2, #Hr2⟩
  ihave R3 := (record_at m K c 3) $$ HR
  icases R3 with ⟨#Hi3, #Hr3⟩
  ihave P0 := (record_at m K (partner c) 0) $$ HR
  icases P0 with ⟨#Hj0, #Hs0⟩
  ihave P2 := (record_at m K (partner c) 2) $$ HR
  icases P2 with ⟨#Hj2, #Hs2⟩
  ihave Hin := (Entails.of_eq (in_pieces m c)) $$ Hin
  ihave Hout := (Entails.of_eq (out_pieces c (m ((c : Thread nD τ).loc main_v1)))) $$ Hout
  icases Hin with ⟨Hsent, Hkept⟩
  icases Hout with ⟨Hown, Hother⟩
  -- signal the partner: it may fill its rows here
  iapply (wp_signal_ready m K c _ (signalled_eq c) _ (by decide) W (m ((c : Thread nD τ).loc main_v1))) $$ [HO Ht0 Hother]
  · isplitr; · iexact Hj0
    isplitl [HO]; · iexact HO
    isplitl [Ht0]; · iexact Ht0
    isplitl [Hother]; · iexact Hother
    iexact Hs0
  iintro HO
  -- wait for the partner's signal: this device may fill its rows there
  iapply (wp_wait_ready m K c _ (by decide) W) $$ [Hc0 HO Ha0]
  · isplitr; · iexact Hi0
    isplitl [Hc0]; · iexact Hc0
    isplitl [HO]; · iexact HO
    isplitr; · iexact Hlev
    iexact Ha0
  iintro ⟨HO, Ha0, ⟨%f, Hthere⟩⟩
  -- copy to the partner
  iapply (wp_copy_over m K c _ (copied_eq c) f _) $$ [Hsent Hthere HO Ht1 Ht2]
  · isplitr; · iexact Hi1
    isplitr; · iexact Hj2
    isplitl [Hsent]; · iexact Hsent
    isplitl [Hthere]; · iexact Hthere
    isplitl [HO]; · iexact HO
    isplitl [Ht1]; · iexact Ht1
    isplitr; · iexact Hr1
    isplitl [Ht2]; · iexact Ht2
    iexact Hs2
  iintro ⟨Hc1, HO⟩
  -- copy on the device
  iapply (wp_copy_here m K c (m ((c : Thread nD τ).loc main_v1))) $$ [Hkept Hown Ht3]
  · isplitr; · iexact Hi3
    isplitl [Hkept]; · iexact Hkept
    isplitl [Hown]; · iexact Hown
    isplitl [Ht3]; · iexact Ht3
    iexact Hr3
  iintro Hc3
  -- wait for the copy on the device, for the copy out, for the copy in
  iapply (wp_wait_copy m K c 3 (by decide) rfl (src := kept c) (dst := rows c) (hsrc := View.wordExact_bits rfl)
    (hdst := View.wordExact_bits rfl) rfl _) $$ [Hc3 HO Ha3]
  · isplitr; · iexact Hi3
    isplitl [Hc3]; · iexact Hc3
    isplitl [HO]; · iexact HO
    iexact Ha3
  iintro ⟨HO, Ha3, Hp3⟩
  iapply (wp_wait_copy m K c 1 (by decide) rfl (src := rows c) (dst := sent c) (hsrc := View.wordExact_bits rfl)
    (hdst := View.wordExact_bits rfl) rfl _) $$ [Hc1 HO Ha1]
  · isplitr; · iexact Hi1
    isplitl [Hc1]; · iexact Hc1
    isplitl [HO]; · iexact HO
    iexact Ha1
  iintro ⟨HO, Ha1, Hp1⟩
  iapply (wp_wait_copy m K c 2 (by decide) rfl (src := sent c) (dst := rows c) (hsrc := View.wordExact_bits rfl)
    (hdst := View.wordExact_bits rfl) rfl _) $$ [Hc2 HO Ha2]
  · isplitr; · iexact Hi2
    isplitl [Hc2]; · iexact Hc2
    isplitl [HO]; · iexact HO
    iexact Ha2
  iintro ⟨HO, Ha2, Hp2⟩
  unfold handed
  icases Hp3 with ⟨Hown, Hkept⟩
  -- the four semaphores close
  imod (close m K c 0) $$ [Ha0] with Hz0
  · isplitr; · iexact Hi0
    iexact Ha0
  imod (close m K c 1) $$ [Ha1] with Hz1
  · isplitr; · iexact Hi1
    iexact Ha1
  imod (close m K c 2) $$ [Ha2] with Hz2
  · isplitr; · iexact Hi2
    iexact Ha2
  imod (close m K c 3) $$ [Ha3] with Hz3
  · isplitr; · iexact Hi3
    iexact Ha3
  rw [wp_ret]; imodintro
  iapply Hk
  isplitr [HO]
  · unfold finish
    isplitl [Hp1 Hkept]
    · iapply (Entails.of_eq (in_pieces m c).symm)
      isplitl [Hp1]; · iexact Hp1
      iexact Hkept
    isplitl [Hown Hp2]
    · iapply (Entails.of_eq (out_pieces c (result m c)).symm)
      isplitl [Hown]; · iexact Hown
      iexact Hp2
    isplitl [Hz0]; · iexact Hz0
    isplitl [Hz1]; · iexact Hz1
    isplitl [Hz2]; · iexact Hz2
    iexact Hz3
  · iexists _; iexact HO

end Steps

end Cert.Swap

end
-- ==== Proof.Deal.lean ====
/-
# Dealing out the exchange's resources at the launch

Every device's four semaphores get their invariant; each device keeps its positions at its own four, and the tokens of
its own ready and back semaphores go to its partner, who pays them. What the devices owe at launch is, cell by cell, the
credit each device starts with: one unit on its ready semaphore and `N` on its back semaphore.
-/
module

public import proofs.«01_k».proof.Proof.Body
public import Idealize.ShloMosaic.Lib.Pipeline.Kit

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- The four semaphores of every device, as one list. -/
abbrev cellAt (ck : Dev nD × Fin 4) : GSem nD τ sig := cell ck.1 ck.2

/-- No semaphore is listed twice. -/
theorem cellAt_injective : Function.Injective cellAt := fun a b h => Prod.ext (cell_eq_iff.mp h).1 (cell_eq_iff.mp h).2

/-- Their duties. -/
abbrev tokAt (ck : Dev nD × Fin 4) : GSem nD τ sig × ℕ × Unit := (cellAt ck, 0, ())

/-- No duty is listed twice. -/
theorem tokAt_injective : Function.Injective tokAt := fun a b h => cellAt_injective (congrArg Prod.fst h)

/-- All devices' semaphores. -/
def allCells : Finset (GSem nD τ sig) := Finset.univ.map ⟨cellAt, cellAt_injective⟩
/-- All their duties. -/
def allToks : Finset (GSem nD τ sig × ℕ × Unit) := Finset.univ.map ⟨tokAt, tokAt_injective⟩

/-- The four resources of one kind, one per semaphore, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the launch deals device `c`: the round state, the position and mark, and the token of each of its semaphores. -/
def dealt (c : Dev nD) : sProp 𝕄 :=
  iprop((bigSep Finset.univ fun k : Fin 4 => roundState EX (plan m) (cell c k) 0)
    ∗ (bigSep Finset.univ fun k : Fin 4 => iprop(atPos EX (cell c k) 0 ∅ 0 ∗ reached EX (cell c k) 0))
    ∗ bigSep Finset.univ fun k : Fin 4 => dutyTok EX (cell c k) 0 ())

/-- The launch element of the exchange makes what is dealt. -/
theorem deal : BI.own (EX (initOf allCells allToks)) ⊢ (|==> bigSep Finset.univ (dealt m) : sProp 𝕄) := by
  have hC (Φ : GSem nD τ sig → sProp 𝕄) : bigSep allCells Φ = bigSep Finset.univ fun c : Dev nD => bigSep Finset.univ fun k : Fin 4 => Φ (cell c k) := by
    unfold allCells; rw [bigSep_map, bigSep_univ_prod]; rfl
  have hT : bigSep allToks (fun x => (dutyTok EX x.1 x.2.1 x.2.2 : sProp 𝕄))
      = bigSep Finset.univ fun c : Dev nD => bigSep Finset.univ fun k : Fin 4 => dutyTok EX (cell c k) 0 () := by
    unfold allToks; rw [bigSep_map, bigSep_univ_prod]; rfl
  iintro HX
  imod (Rounds.fund EX (plan m) allCells allToks) $$ HX with ⟨Hst, Hr, Hat, Htok⟩
  imodintro
  ihave Hst := (Entails.of_eq (hC fun g => roundState EX (plan m) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  unfold dealt
  simp only [bigSep_sep']
  isplitl [Hst]; · iexact Hst
  isplitl [Hat Hr]
  · isplitl [Hat] <;> iassumption
  iexact Htok

/-! ## The invariants -/

/-- The kernel's three scoped semaphores: out, back, here. -/
abbrev ownS : Fin 3 → SemLoc sig := fun k => semOf k.succ

/-- They are scoped and distinct. -/
theorem ownS_facts : Pipeline.OwnSemFacts cfg0.spec ownS := by decide

/-- The three at zero, written out. -/
theorem ownSems_eq (c : Dev nD) :
    (Pipeline.ownSems0 (Ix := Unit) (Name := ℕ) (U := UU) (Lvl := ℕ) (Val := Elt F) (τ := τ) ownS c : sProp 𝕄)
      = iprop(semVal (cell c 1) 0 ∗ semVal (cell c 2) 0 ∗ semVal (cell c 3) 0) := by
  rw [Pipeline.ownSems0_eq_of_list c ownS [0, 1, 2] (by decide) (by decide)]; rfl

/-- Ready is the one semaphore the launch does not scope. -/
theorem unscopedSems_eq (c : Dev nD) : (unscopedSems0 c : sProp 𝕄) = semVal (cell c 0) 0 := by
  unfold unscopedSems0; rw [bigSep_eq_bigSepL_of_eq [semOf 0] (by decide) (by decide)]; rfl

/-- On each device the four invariants are allocated. -/
theorem allocate (c : Dev nD) :
    iprop(Pipeline.ownSems0 (Ix := Unit) (Name := ℕ) (U := UU) (Lvl := ℕ) (Val := Elt F) (τ := τ) ownS c ∗ unscopedSems0 c ∗ dealt m c)
      ⊢ |={Set.univ}=> iprop((bigSep Finset.univ fun k => iprop(∃ κ : ℕ, cellInv EX (plan m) κ (cell c k)))
          ∗ (bigSep Finset.univ fun k => iprop(atPos EX (cell c k) 0 ∅ 0 ∗ reached EX (cell c k) 0))
          ∗ bigSep Finset.univ fun k : Fin 4 => dutyTok EX (cell c k) 0 ()) := by
  have alloc : iprop((bigSep Finset.univ fun k : Fin 4 => semVal (cell c k) 0) ∗ bigSep Finset.univ fun k : Fin 4 => roundState EX (plan m) (cell c k) 0)
      ⊢ (|={Set.univ}=> bigSep Finset.univ fun k => iprop(∃ κ : ℕ, cellInv EX (plan m) κ (cell c k)) : sProp 𝕄) := by
    rw [← bigSep_sep']
    exact (bigSep_mono fun k _ => (Rounds.body_intro EX (plan m) (cell c k)).trans inv_alloc).trans (bigSep_fupd _ _)
  rw [ownSems_eq, unscopedSems_eq]
  rw [four fun k => semVal (cell c k) 0] at alloc
  unfold dealt
  iintro ⟨⟨H1, H2, H3⟩, H0, Hst, Hat, Htok⟩
  imod alloc $$ [H0 H1 H2 H3 Hst] with HI
  · isplitr [Hst]
    · isplitl [H0]; · iexact H0
      isplitl [H1]; · iexact H1
      isplitl [H2] <;> iassumption
    · iexact Hst
  imodintro
  isplitl [HI]; · iexact HI
  isplitl [Hat] <;> iassumption

/-- Every device pays its own out and here semaphores and its partner's ready and back: the tokens of the latter two
    change hands within each pair. -/
theorem trade :
    (bigSep Finset.univ fun c : Dev nD => bigSep Finset.univ fun k : Fin 4 => (dutyTok EX (cell c k) 0 () : sProp 𝕄))
      ⊢ bigSep Finset.univ fun c : Dev nD => payToks c := by
  simp only [four]
  unfold payToks
  simp only [bigSep_sep']
  rw [bigSep_univ_equiv swap (fun c : Dev nD => (dutyTok EX (cell c 0) 0 () : sProp 𝕄)),
    bigSep_univ_equiv swap (fun c : Dev nD => (dutyTok EX (cell c 2) 0 () : sProp 𝕄))]
  exact BI.Entails.refl _

/-- From one device's allocations on every device: the records for all, and to each its positions and tokens. -/
theorem gather :
    (bigSep Finset.univ fun c : Dev nD => iprop((bigSep Finset.univ fun k => iprop(∃ κ : ℕ, cellInv EX (plan m) κ (cell c k)))
          ∗ (bigSep Finset.univ fun k => iprop(atPos EX (cell c k) 0 ∅ 0 ∗ reached EX (cell c k) 0))
          ∗ bigSep Finset.univ fun k : Fin 4 => dutyTok EX (cell c k) 0 ()) : sProp 𝕄)
      ⊢ bigSep Finset.univ (ghost m) := by
  simp only [bigSep_sep']
  rw [← bigSep_univ_prod (fun ck : Dev nD × Fin 4 => iprop(∃ κ : ℕ, cellInv EX (plan m) κ (cellAt ck))),
    ← bigSep_univ_prod (fun ck : Dev nD × Fin 4 => (reached EX (cellAt ck) 0 : sProp 𝕄))]
  iintro ⟨HI, ⟨Hat, #HR⟩, Htok⟩
  ihave HK := (BI.bigSep_exists_pi Finset.univ (fun (ck : Dev nD × Fin 4) (κ : ℕ) => (cellInv EX (plan m) κ (cellAt ck) : sProp 𝕄))) $$ HI
  icases HK with ⟨%K, #HI⟩
  ihave Hpay := (trade (F := F)) $$ Htok
  have hand : ∀ c ∈ (Finset.univ : Finset (Dev nD)), iprop(records m K ∗ positions c ∗ payToks c) ⊢ ghost m c := fun c _ => by
    unfold ghost
    iintro H
    iexists K
    iexact H
  iapply (((sep_mono_left (BI.bigSep_of_persistent Finset.univ (records m K))).trans
    (Entails.of_eq (bigSep_sep' Finset.univ (fun _ : Dev nD => records m K) (fun c => iprop(positions c ∗ payToks c))).symm)).trans
    (bigSep_mono hand))
  isplitr
  · unfold records
    rw [bigSep_sep']
    isplitr; · iexact HI
    iexact HR
  · rw [bigSep_sep']
    unfold positions
    simp only [four]
    isplitl [Hat]; · iexact Hat
    iexact Hpay

/-- The launch's step over all devices at once. -/
theorem establish :
    (bigSep Finset.univ fun c => iprop(Pipeline.ownSems0 (Ix := Unit) (Name := ℕ) (U := UU) (Lvl := ℕ) (Val := Elt F) (τ := τ) ownS c
        ∗ unscopedSems0 c ∗ dealt m c) : sProp 𝕄)
      ⊢ |={Set.univ}=> bigSep Finset.univ (ghost m) :=
  ((bigSep_mono fun c _ => allocate m c).trans (bigSep_fupd _ _)).trans (BI.fupd_mono (gather m))

/-! ## The launch's credit -/

/-- What `d` owes semaphore `k` of `c`: its due if `c` is its partner and `k` is ready or back. -/
theorem owed_at (d c : Dev nD) (k : Fin 4) :
    oweAll d (cell c k) () = if d = partner c then (if k = 2 then N else 0) + (if k = 0 then 1 else 0) else 0 := by
  unfold oweAll oweCopy
  rw [Pi.add_apply, Finsupp.add_apply, tallyAt_apply, tallyAt_apply]
  have hp : c = partner d ↔ d = partner c :=
    ⟨fun h => by rw [h, partner_partner], fun h => by rw [h, partner_partner]⟩
  have at_cell (j : Fin 4) : (cell c k = cell (partner d) j ∧ () = ()) ↔ (d = partner c ∧ k = j) :=
    (and_iff_left rfl).trans (cell_eq_iff.trans (and_congr hp Iff.rfl))
  refine (congrArg₂ (· + ·) (if_congr (at_cell 2) rfl rfl) (if_congr (at_cell 0) rfl rfl)).trans ?_
  by_cases h : d = partner c
  · rw [if_pos h]
    exact congrArg₂ (· + ·) (if_congr (and_iff_right h) rfl rfl) (if_congr (and_iff_right h) rfl rfl)
  · rw [if_neg h, if_neg fun h' => h h'.1, if_neg fun h' => h h'.1]

/-- The launch's credit at semaphore `k` of `c`: what its partner owes it. -/
theorem credit_at (c : Dev nD) (k : Fin 4) :
    tallyOn (cell c k) (launchCredit (Pipeline.owing oweAll) 0 (cell c k))
      = (tallyAt (cell c k) () ((if k = 2 then N else 0) + (if k = 0 then 1 else 0)) : CellTallies nD τ sig Unit) := by
  unfold tallyAt
  refine congrArg _ (Finsupp.ext fun u => ?_)
  cases u
  rw [Pipeline.launchCredit_owing, Finsupp.single_eq_same, Finset.sum_congr rfl fun d _ => owed_at d c k,
    Finset.sum_ite_eq' Finset.univ (partner c) fun _ => _, if_pos (Finset.mem_univ _)]

/-- The launch gives device `c` the credit for one signal at ready and for one copy at back. -/
theorem credit (c : Dev nD) :
    (Pipeline.launchCred oweAll c : sProp 𝕄) ⊢ iprop(cred (tallyAt (cell c 0) () 1) ∗ cred (tallyAt (cell c 2) () N)) := by
  have h0 := credit_at c 0
  have h2 := credit_at c 2
  rw [if_neg (by decide), if_pos rfl, Nat.zero_add] at h0
  rw [if_pos rfl, if_neg (by decide), Nat.add_zero] at h2
  unfold Pipeline.launchCred
  rw [bigSep_univ_at _ (semOf 0), h0]
  refine sep_mono_right ?_
  rw [← h2]
  exact bigSep_elim (Finset.mem_erase.mpr ⟨fun h => absurd (semOf_injective h) (by decide), Finset.mem_univ _⟩)

end Cert.Swap

end
-- ==== Proof.Run.lean ====
/-
# The run

On the eight devices, from any memory with every semaphore at zero and for any float values, every weakly fair execution
of the program terminates; at the end each device's input is what it was, its output is `result`, and every semaphore is
at zero.
-/
module

public import proofs.«01_k».proof.Proof.Deal
public import Idealize.ShloMosaic.Lib.Pipeline.CollectiveSegs

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The one point -/

/-- The kernel stages nothing: before its one point it holds `start` and owes both its payments, after it `finish` and
    owes nothing. -/
def dats (_ : Fin 1) (c : Dev nD) : Dat τ (Elt F) Unit ℕ UU ℕ cfg0 c where
  A w := w.elim0
  after w := w.elim0
  Φ t := match t with
    | ⟨0, _⟩ => start m c
    | ⟨_ + 1, _⟩ => finish m c
  q w := w.elim0
  owed t := match t with
    | ⟨0, _⟩ => oweAll c
    | ⟨_ + 1, _⟩ => 0

/-- There is no window to own. -/
theorem bigSep_no_window (Φ : Fin cfg0.W → sProp 𝕄) : bigSep Finset.univ Φ = iprop(emp) := bigSep_empty

/-- The kernel body at `c`, in the form the launch asks for. -/
theorem body_obligation (c : Dev nD) : BodyObligation (dats (F := F) m 0 c) (defs₀ (F := F)) 𝒱₀ () Set.univ := fun t => by
  rw [show t = t0_0 from fin_N0 t, bigSep_no_window, bigSep_no_window]
  show iprop(start m c ∗ (dats m 0 c).owesAt () t0_0.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2) (fun _ => iprop(finish m c ∗ (dats m 0 c).owesAt () t0_0.succ ∗ emp))
  unfold start ghost Dat.owesAt Pipeline.owesWithin
  rw [show (dats m 0 c).owed t0_0.castSucc = oweAll c from rfl, show (dats m 0 c).owed t0_0.succ = 0 from rfl]
  iintro ⟨⟨⟨%K, HR, Hpos, Htok⟩, Hmine⟩, ⟨%W, %hW, HO⟩, -⟩
  iapply (sound_body m K c (fun _ => iprop(finish m c ∗ (∃ W, ⌜_⌝ ∗ owes (c : Thread nD τ) 0 W) ∗ emp)) W)
  isplitl
  · isplitl [HR]; · iexact HR
    isplitl [Hpos]; · iexact Hpos
    isplitl [Htok]; · iexact Htok
    isplitl [Hmine]; · iexact Hmine
    iexact HO
  · iintro ⟨Hf, ⟨%W', HO⟩⟩
    isplitl [Hf]; · iexact Hf
    isplitl [HO]
    · iexists W'
      isplitr; · ipureintro; exact fun _ _ => Or.inl trivial
      iexact HO
    · iempintro

/-! ## The launch's side conditions -/

/-- The launch's two unscoped arrays are the kernel's input and output. -/
theorem arrays_eq (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = iprop((((c : Thread nD τ).loc main_arg0) ↦{fullShare} V main_arg0) ∗ (((c : Thread nD τ).loc main_v1) ↦{fullShare} V main_v1)) :=
  Pipeline.unscopedRestP_eq_of_list cfg0.spec c Pipeline.Prefetch.none V [main_arg0, main_v1] (by decide) (by decide)

/-- What the launch gives device `c` makes the body's start. -/
theorem start_intro (c : Dev nD) :
    iprop(Pipeline.unscopedRestP Pipeline.Prefetch.none cfg0.spec c (fun b => m ((c : Thread nD τ).loc b)) ∗ levAts levelled level
        ∗ Pipeline.launchCred oweAll c ∗ prngReg c (ρ c) ∗ ghost m c)
      ⊢ |={Set.univ}=> iprop(start m c ∗ emp) := by
  rw [arrays_eq]
  iintro ⟨⟨Hin, Hout⟩, Hlev, Hcr, -, HG⟩
  ihave Hc := (credit (F := F) c) $$ Hcr
  icases Hc with ⟨H0, H2⟩
  imodintro
  unfold start mine inPts outPts
  isplitl
  · isplitl [HG]; · iexact HG
    isplitl [H0]; · iexact H0
    isplitl [H2]; · iexact H2
    isplitl [Hlev]; · iexact Hlev
    isplitl [Hin]; · iexact Hin
    iexact Hout
  · iempintro

/-- The start is the state before the only step. -/
theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ start m c
  iintro ⟨H, -, -⟩
  iexact H

/-- What is read off at the end: the two arrays, and ready at zero. -/
def remains (c : Dev nD) : sProp 𝕄 := iprop(unscopedSems0 c ∗ inPts m c ∗ outPts c (result m c))

/-- The body's finish gives what is read off, and the kernel's own semaphores at zero. -/
theorem last_exit (c : Dev nD) :
    (dats m 0 c).Φ (Fin.last cfg0.N) ⊢ iprop(remains m c ∗ Pipeline.ownSems0 ownS c ∗ Pipeline.scopedRest cfg0.spec c) := by
  rw [show (dats m 0 c).Φ (Fin.last cfg0.N) = finish m c from rfl, scopedRest0_eq, ownSems_eq]
  unfold finish remains
  rw [unscopedSems_eq]
  iintro ⟨Hin, Hout, H0, H1, H2, H3⟩
  isplitl [H0 Hin Hout]
  · isplitl [H0]; · iexact H0
    isplitl [Hin] <;> iassumption
  isplitl [H1 H2 H3]
  · isplitl [H1]; · iexact H1
    isplitl [H2] <;> iassumption
  iempintro

/-- No window, so no wait on one. -/
theorem waits (c : Dev nD) : (levAts levelled level : sProp 𝕄) ⊢ Pipeline.cellsWaits cfgs (dats m) () 0 c :=
  Pipeline.cellsWaits_intro cfgs (dats m) () 0 c fun w => w.elim0

/-- A device's state at the end. -/
def Final (c : Dev nD) (s : MemSt nD τ sig (Elt F)) : Prop :=
  s.mem ((c : Thread nD τ).loc main_arg0) = input m c ∧ s.mem ((c : Thread nD τ).loc main_v1) = result m c

/-- A buffer held whole at `f` has the contents `f`. -/
theorem whole_read {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact funext fun i => h i (Finset.mem_univ i)
  · iexact HSI

/-- From the two arrays and ready at zero, the final memory is as claimed. -/
theorem read_off (c : Dev nD) (s' : Phys nD τ sig (Elt F)) :
    iprop(remains m c ∗ emp ∗ SI s')
      ⊢ |={Set.univ}=> (iprop(⌜Final m c s'.mem ∧ ∀ sm : SemLoc sig, sm.isScoped .tc = false → s'.mem.sem ((c.tc : Thread nD τ), sm) = 0⌝ ∗ SI s') : sProp 𝕄) := by
  unfold remains inPts outPts
  iintro ⟨⟨Hu, Hin, Hout⟩, -, HSI⟩
  ihave H := (whole_read (F := F) (input m c) s') $$ [Hin HSI]
  · isplitl [Hin] <;> iassumption
  icases H with ⟨%h1, HSI⟩
  ihave H := (whole_read (F := F) (result m c) s') $$ [Hout HSI]
  · isplitl [Hout] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro; exact ⟨⟨h1, h2⟩, h3⟩
  · iexact HSI

/-! ## The run -/

/-- The launch element: the pipeline's part and the exchange's. -/
def u₀ : UU :=
  (initOf (Pipeline.cells cfgs cellOf_inj) (Pipeline.launchToks cfgs cellOf_inj), initOf allCells allToks)

set_option maxRecDepth 8000 in
/-- Every weakly fair execution of the program terminates with each device's input unchanged, its output at `result`, and
    every semaphore at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownS_facts (Pipeline.PreFacts.none _) EP defs₀ 𝒱₀ m ρ main
    (hmain := fun _ => rfl)
    (hbody := body_obligation m) (hne := block_pos0) (harr := arr_whole0) (hstage := stage_whole0)
    (hshare := fun _ w => w.elim0) (hdistinct := winFacts0.arr_inj)
    (O₀ := oweAll) (howed₀ := fun _ => rfl) (howedN := fun _ => rfl)
    (L := levelled) (lv := level) (hL := levelled_of_ne) (hwaits := waits m)
    (G := dealt m) (G' := ghost m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := establish m)
    (hA := fun _ w => w.elim0) (hpf := fun _ k => k.elim0)
    (X := start m) (Y := remains m) (Z := fun _ => iprop(emp))
    (hX := start_intro m ρ) (hin := first_intro m) (hout := last_exit m)
    (QY := fun c s => Final m c s ∧ ∀ sm : SemLoc sig, sm.isScoped .tc = false → s.sem ((c.tc : Thread nD τ), sm) = 0)
    (hY := read_off m)
    (hQ := fun _ h hs => ⟨fun c => (h c).2.2.1, sem_eq_zero hs fun c => (h c).2.2.2⟩)

end Cert.Swap

end
-- ==== Proof.Value.lean ====
/-
# The value: what the exchange leaves is the reference's array, cut the other way

On entry the devices hold the global array cut by rows, half of them by each value of the last mesh coordinate; at the
end they hold it cut by columns. The reference is the identity, so the two sides are blocks of one array.
-/
module

public import proofs.«01_k».proof.Proof.Pieces
public import proofs.«01_k».proof.Proof.Gen.ReferenceIdeal
public import Idealize.ShloMosaic.Lib.Layout
public import Idealize.ShloMosaic.Lib.StableHlo.Run
public import Idealize.ShloMosaic.Lib.Quiescent

@[expose] public section

noncomputable section

namespace Cert.Swap

open Idealize.ShloMosaic Idealize.ShloMosaic.TcCoe

variable {F : FTy → Type} [FloatOps F]

section Blocks
open Cert.KernelIdeal Cert.KernelIdeal.Gen

/-- The block a dimension cut by the last mesh axis gives device `n` of the 2 by 2 by 2 mesh is `n % 2`. -/
theorem last_axis (n : ℕ) : Layout.meshLin [2, 2, 2] n [2] = n % 2 := by
  show n / 1 % 2 * 1 + 0 = n % 2
  omega

/-- If every device's input is its block of `v` cut by rows, every device's output is its block of `v` cut by columns. -/
theorem result_block (m : (ℓ : Loc nD τ sig) → Buf (Elt F) ℓ) (v : Shape.Idx ⟨2, ![4096, 1024]⟩ → Elt F .f32)
    (h : ∀ c : Dev nD, input m c = Layout.blockN ⟨2, ![2048, 1024]⟩ ⟨2, ![4096, 1024]⟩ (Layout.meshBlock [2, 2, 2] ![[2], []] c) v)
    (c : Dev nD) :
    result m c = Layout.blockN ⟨2, ![4096, 512]⟩ ⟨2, ![4096, 1024]⟩ (Layout.meshBlock [2, 2, 2] ![[], [2]] c) v := by
  refine funext fun i : S4096x512.Idx => ?_
  have h0 : (i 0 : ℕ) < 4096 := (i 0).isLt
  refine (congrFun (h (atZ c ((i 0 : ℕ) / 2048))) (source c i)).trans ?_
  refine congrArg v (funext fun b : Fin 2 => Fin.ext ?_)
  refine (Layout.TilesN.idx_val _ _ _ _).trans (Eq.trans ?_ (Layout.TilesN.idx_val _ _ _ _).symm)
  fin_cases b
  · show Layout.meshLin [2, 2, 2] (atZ c ((i 0 : ℕ) / 2048)).val [2] * 2048 + (i 0 : ℕ) % 2048
      = Layout.meshLin [2, 2, 2] c.val [] * 4096 + (i 0 : ℕ)
    rw [last_axis, atZ_val, show Layout.meshLin [2, 2, 2] c.val [] = 0 from rfl]
    omega
  · show Layout.meshLin [2, 2, 2] (atZ c ((i 0 : ℕ) / 2048)).val [] * 1024 + (512 * (c.val % 2) + (i 1 : ℕ))
      = Layout.meshLin [2, 2, 2] c.val [2] * 512 + (i 1 : ℕ)
    rw [last_axis, show Layout.meshLin [2, 2, 2] (atZ c ((i 0 : ℕ) / 2048)).val [] = 0 from rfl]
    omega

end Blocks

section Reference
open Cert.ReferenceIdeal Cert.ReferenceIdeal.Gen

/-- The reference has no operation: its run ends with its one array, argument and result at once, as it was, and it has
    no semaphore. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => h c main_arg0, sem_eq_zero_of_no_sems rfl r.2⟩)
    (StableHlo.run_seq (by decide) (by decide) defs main (fun _ => []) (fun _ => rfl) (fun _ => trivial) m ρ)

end Reference

end Cert.Swap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel's run on machine floats: its text is its idealization's, whose run is for any float values. -/
theorem frame_kernel : Cert.quiescent_Kernel := fun m ρ _ =>
  (θ_run Cert.KernelIdeal.defs _ _).mono (fun _ h => ⟨fun c => (h.1 c).1, h.2⟩) (Cert.Swap.run_main (F := Bits) m ρ)

/-- The same on exact values. -/
theorem frame_ideal : Cert.quiescent_KernelIdeal := fun m ρ _ =>
  (θ_run Cert.KernelIdeal.defs _ _).mono (fun _ h => ⟨fun c => (h.1 c).1, h.2⟩) (Cert.Swap.run_main (F := Ideal) m ρ)

/-- The reference's run. -/
theorem frame_reference : Cert.quiescent_ReferenceIdeal := fun m ρ _ => Cert.Swap.run_reference (F := Ideal) m ρ

/-- Each device's result is its block of the reference's result, which is the reference's argument. -/
theorem value : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ hr c => ⟨(hr.1 c).2.trans (Cert.Swap.result_block m _ h c), (hr.1 c).1⟩) (Cert.Swap.run_main (F := Ideal) m ρ),
    (θ_run Cert.ReferenceIdeal.defs _ _).mono (fun _ hr => ⟨hr.1 0, hr.1 0⟩) (Cert.Swap.run_reference (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
